-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_sqrt_two_pi" .f32 0x3ECC422A#32 (((Real.sqrt (2 * Real.pi))⁻¹ : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S16x2 : Shape := ⟨2, ![16, 2]⟩
abbrev S16 : Shape := ⟨1, ![16]⟩
abbrev S32768 : Shape := ⟨1, ![32768]⟩
abbrev S1048576 : Shape := ⟨1, ![1048576]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel
  bcast_S_S16x2 : S_.BroadcastsInDim S16x2 (![] : Fin 0 → Fin S16x2.rank)
  reducesTo_S16x2_S_d0_1 : S16x2.ReducesTo [0, 1] S_

variable [Facts]

def fn {F : FTy → Type} [FloatOps F] (main_arg0 : FVec F S16x2 .f32) (main_arg1 : IVec S16 32) (main_arg2 : FVec F S32768 .f32) (main_arg3 : IVec S16 32) (main_arg4 : FVec F S1048576 .f32) : IVec S_ 1 :=
  let main_c : IVec S_ 32 := constantI S_ 32 0#32
  let main_v0 : IVec S16 32 := broadcastInDim S16 ![] bcast_S_S16 main_c
  let main_v1 : IVec S16 1 := cmpi .sge main_arg1 main_v0
  let main_c_0 : IVec S_ 32 := constantI S_ 32 2#32
  let main_v2 : IVec S16 32 := broadcastInDim S16 ![] bcast_S_S16 main_c_0
  let main_v3 : IVec S16 1 := cmpi .slt main_arg1 main_v2
  let main_v4 : IVec S16 1 := andi main_v1 main_v3
  let main_c_1 : IVec S_ 1 := constantI S_ 1 1#1
  let main_v5 : IVec S_ 1 := (fun x v => Host.reduce IntOp.andi x v reducesTo_S16_S_d0 h_S_) main_v4 main_c_1
  let main_cst : FVec F S_ .f32 := constant S_ .f32 0x7F800000#32
  let main_v6 : FVec F S16x2 .f32 := broadcastInDim S16x2 ![] bcast_S_S16x2 main_cst
  let main_v7 : IVec S16x2 1 := cmpf .olt main_arg0 main_v6
  let main_c_2 : IVec S_ 1 := constantI S_ 1 1#1
  let main_v8 : IVec S_ 1 := (fun x v => Host.reduce IntOp.andi x v reducesTo_S16x2_S_d0_1 h_S_) main_v7 main_c_2
  let main_v9 : IVec S_ 1 := andi main_v5 main_v8
  main_v9
-- ==== Kernel.lean ====
abbrev S16x2 : Shape := ⟨2, ![16, 2]⟩
abbrev S16 : Shape := ⟨1, ![16]⟩
abbrev S32768 : Shape := ⟨1, ![32768]⟩
abbrev S1048576 : Shape := ⟨1, ![1048576]⟩
abbrev S2x16 : Shape := ⟨2, ![2, 16]⟩
abbrev S_ : Shape := ⟨0, ![]⟩
abbrev S524288 : Shape := ⟨1, ![524288]⟩
abbrev S1x16 : Shape := ⟨2, ![1, 16]⟩
abbrev S1x1x16 : Shape := ⟨3, ![1, 1, 16]⟩
abbrev S1 : Shape := ⟨1, ![1]⟩
abbrev S1x1x1 : Shape := ⟨3, ![1, 1, 1]⟩
abbrev S16x1 : Shape := ⟨2, ![16, 1]⟩
abbrev S16x2048 : Shape := ⟨2, ![16, 2048]⟩
abbrev S1x16x2048 : Shape := ⟨3, ![1, 16, 2048]⟩
abbrev S1024x512 : Shape := ⟨2, ![1024, 512]⟩
abbrev S1x1024x512 : Shape := ⟨3, ![1, 1024, 512]⟩

abbrev nBuf : Space → Nat
  | .hbm => 8
  | .vmem => 6
  | .smem => 2
  | _ => 0

abbrev bufTy : (tb : Table) → Fin (tcTables nBuf tb) → BufTy
  | .hbm, ⟨0, _⟩ => ⟨S16x2, .f32⟩
  | .hbm, ⟨1, _⟩ => ⟨S16, .i32⟩
  | .hbm, ⟨2, _⟩ => ⟨S32768, .f32⟩
  | .hbm, ⟨3, _⟩ => ⟨S16, .i32⟩
  | .hbm, ⟨4, _⟩ => ⟨S1048576, .f32⟩
  | .hbm, ⟨5, _⟩ => ⟨S2x16, .f32⟩
  | .hbm, ⟨6, _⟩ => ⟨S_, .f32⟩
  | .hbm, ⟨7, _⟩ => ⟨S_, .f32⟩
  | .local _ .vmem, ⟨0, _⟩ => ⟨S2x16, .f32⟩
  | .local _ .vmem, ⟨1, _⟩ => ⟨S16, .i32⟩
  | .local _ .vmem, ⟨2, _⟩ => ⟨S32768, .f32⟩
  | .local _ .vmem, ⟨3, _⟩ => ⟨S16, .i32⟩
  | .local _ .vmem, ⟨4, _⟩ => ⟨S524288, .f32⟩
  | .local _ .vmem, ⟨5, _⟩ => ⟨S524288, .f32⟩
  | .local _ .smem, ⟨0, _⟩ => ⟨S_, .f32⟩
  | .local _ .smem, ⟨1, _⟩ => ⟨S_, .f32⟩
  | _, _ => ⟨S16x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_stg4_0 : Ref sig .tc := ⟨.smem, 0, rfl⟩
abbrev cc0_stg5_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S_ .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S_ .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "inv_sqrt_two_pi" => some (((Real.sqrt (2 * Real.pi))⁻¹ : ℝ) : EReal)
  | _ => none
-- ==== ReferenceIdeal.lean ====
abbrev S16x2 : Shape := ⟨2, ![16, 2]⟩
abbrev S16 : Shape := ⟨1, ![16]⟩
abbrev S32768 : Shape := ⟨1, ![32768]⟩
abbrev S1048576 : Shape := ⟨1, ![1048576]⟩
abbrev S16x2048 : Shape := ⟨2, ![16, 2048]⟩
abbrev S_ : Shape := ⟨0, ![]⟩
abbrev S16x1 : Shape := ⟨2, ![16, 1]⟩
abbrev S16x1x1 : Shape := ⟨3, ![16, 1, 1]⟩
abbrev S1 : Shape := ⟨1, ![1]⟩
abbrev S1x1x1 : Shape := ⟨3, ![1, 1, 1]⟩
abbrev S2048 : Shape := ⟨1, ![2048]⟩
abbrev S1x2048 : Shape := ⟨2, ![1, 2048]⟩

abbrev nBuf : Space → Nat
  | .hbm => 127
  | .vmem => 0
  | .smem => 0
  | _ => 0

abbrev bufTy : (tb : Table) → Fin (tcTables nBuf tb) → BufTy
  | .hbm, ⟨0, _⟩ => ⟨S16x2, .f32⟩
  | .hbm, ⟨1, _⟩ => ⟨S16, .i32⟩
  | .hbm, ⟨2, _⟩ => ⟨S32768, .f32⟩
  | .hbm, ⟨3, _⟩ => ⟨S16, .i32⟩
  | .hbm, ⟨4, _⟩ => ⟨S1048576, .f32⟩
  | .hbm, ⟨5, _⟩ => ⟨S16x2048, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S16x1, .f32⟩
  | .hbm, ⟨13, _⟩ => ⟨S16x2, .f32⟩
  | .hbm, ⟨14, _⟩ => ⟨S16x2, .f32⟩
  | .hbm, ⟨15, _⟩ => ⟨S16x2, .f32⟩
  | .hbm, ⟨16, _⟩ => ⟨S_, .f32⟩
  | .hbm, ⟨17, _⟩ => ⟨S16, .f32⟩
  | .hbm, ⟨18, _⟩ => ⟨S16x1, .f32⟩
  | .hbm, ⟨19, _⟩ => ⟨S16x1, .f32⟩
  | .hbm, ⟨20, _⟩ => ⟨S16x2, .f32⟩
  | .hbm, ⟨21, _⟩ => ⟨S16x2, .f32⟩
  | .hbm, ⟨22, _⟩ => ⟨S16x1, .i32⟩
  | .hbm, ⟨23, _⟩ => ⟨S_, .i32⟩
  | .hbm, ⟨24, _⟩ => ⟨S16x1, .i32⟩
  | .hbm, ⟨25, _⟩ => ⟨S16x1, .i1⟩
  | .hbm, ⟨26, _⟩ => ⟨S_, .i32⟩
  | .hbm, ⟨27, _⟩ => ⟨S16x1, .i32⟩
  | .hbm, ⟨28, _⟩ => ⟨S16x1, .i32⟩
  | .hbm, ⟨29, _⟩ => ⟨S16x1, .i32⟩
  | .hbm, ⟨30, _⟩ => ⟨S16x1x1, .i32⟩
  | .hbm, ⟨31, _⟩ => ⟨S1, .i32⟩
  | .hbm, ⟨32, _⟩ => ⟨S_, .i32⟩
  | .hbm, ⟨33, _⟩ => ⟨S16x1x1, .i32⟩
  | .hbm, ⟨34, _⟩ => ⟨S16x1x1, .i1⟩
  | .hbm, ⟨35, _⟩ => ⟨S1x1x1, .i32⟩
  | .hbm, ⟨36, _⟩ => ⟨S16x1x1, .i32⟩
  | .hbm, ⟨37, _⟩ => ⟨S16x1x1, .i1⟩
  | .hbm, ⟨38, _⟩ => ⟨S16x1x1, .i1⟩
  | .hbm, ⟨39, _⟩ => ⟨S_, .i1⟩
  | .hbm, ⟨40, _⟩ => ⟨S16x1, .i1⟩
  | .hbm, ⟨41, _⟩ => ⟨S16x1, .f32⟩
  | .hbm, ⟨42, _⟩ => ⟨S_, .f32⟩
  | .hbm, ⟨43, _⟩ => ⟨S16x1, .f32⟩
  | .hbm, ⟨44, _⟩ => ⟨S16x1, .f32⟩
  | .hbm, ⟨45, _⟩ => ⟨S16, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S2048, .f32⟩
  | .hbm, ⟨52, _⟩ => ⟨S_, .f32⟩
  | .hbm, ⟨53, _⟩ => ⟨S2048, .f32⟩
  | .hbm, ⟨54, _⟩ => ⟨S2048, .f32⟩
  | .hbm, ⟨55, _⟩ => ⟨S_, .f32⟩
  | .hbm, ⟨56, _⟩ => ⟨S2048, .f32⟩
  | .hbm, ⟨57, _⟩ => ⟨S2048, .f32⟩
  | .hbm, ⟨58, _⟩ => ⟨S_, .f32⟩
  | .hbm, ⟨59, _⟩ => ⟨S16, .f32⟩
  | .hbm, ⟨60, _⟩ => ⟨S1x2048, .f32⟩
  | .hbm, ⟨61, _⟩ => ⟨S16x2048, .f32⟩
  | .hbm, ⟨62, _⟩ => ⟨S16x2048, .f32⟩
  | .hbm, ⟨63, _⟩ => ⟨S_, .f32⟩
  | .hbm, ⟨64, _⟩ => ⟨S16, .f32⟩
  | .hbm, ⟨65, _⟩ => ⟨S16, .f32⟩
  | .hbm, ⟨66, _⟩ => ⟨S_, .i32⟩
  | .hbm, ⟨67, _⟩ => ⟨S16, .i32⟩
  | .hbm, ⟨68, _⟩ => ⟨S16, .i1⟩
  | .hbm, ⟨69, _⟩ => ⟨S_, .f32⟩
  | .hbm, ⟨70, _⟩ => ⟨S16, .f32⟩
  | .hbm, ⟨71, _⟩ => ⟨S16, .f32⟩
  | .hbm, ⟨72, _⟩ => ⟨S_, .f32⟩
  | .hbm, ⟨73, _⟩ => ⟨S16, .f32⟩
  | .hbm, ⟨74, _⟩ => ⟨S16, .f32⟩
  | .hbm, ⟨75, _⟩ => ⟨S16, .f32⟩
  | .hbm, ⟨76, _⟩ => ⟨S1x2048, .f32⟩
  | .hbm, ⟨77, _⟩ => ⟨S16x1, .f32⟩
  | .hbm, ⟨78, _⟩ => ⟨S16x1, .f32⟩
  | .hbm, ⟨79, _⟩ => ⟨S_, .f32⟩
  | .hbm, ⟨80, _⟩ => ⟨S_, .f32⟩
  | .hbm, ⟨81, _⟩ => ⟨S16x2048, .f32⟩
  | .hbm, ⟨82, _⟩ => ⟨S16x2048, .f32⟩
  | .hbm, ⟨83, _⟩ => ⟨S16x2048, .f32⟩
  | .hbm, ⟨84, _⟩ => ⟨S16x2048, .f32⟩
  | .hbm, ⟨85, _⟩ => ⟨S16x2048, .f32⟩
  | .hbm, ⟨86, _⟩ => ⟨S16x2048, .f32⟩
  | .hbm, ⟨87, _⟩ => ⟨S_, .f32⟩
  | .hbm, ⟨88, _⟩ => ⟨S16x2048, .f32⟩
  | .hbm, ⟨89, _⟩ => ⟨S16x2048, .f32⟩
  | .hbm, ⟨90, _⟩ => ⟨S16x2048, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S16x1, .f32⟩
  | .hbm, ⟨96, _⟩ => ⟨S16x1, .f32⟩
  | .hbm, ⟨97, _⟩ => ⟨S16x2048, .f32⟩
  | .hbm, ⟨98, _⟩ => ⟨S16x2048, .f32⟩
  | .hbm, ⟨99, _⟩ => ⟨S_, .f32⟩
  | .hbm, ⟨100, _⟩ => ⟨S16, .f32⟩
  | .hbm, ⟨101, _⟩ => ⟨S16x1, .f32⟩
  | .hbm, ⟨102, _⟩ => ⟨S_, .f32⟩
  | .hbm, ⟨103, _⟩ => ⟨S16x1, .f32⟩
  | .hbm, ⟨104, _⟩ => ⟨S16x1, .f32⟩
  | .hbm, ⟨105, _⟩ => ⟨S16x2048, .f32⟩
  | .hbm, ⟨106, _⟩ => ⟨S16x2048, .f32⟩
  | .hbm, ⟨107, _⟩ => ⟨S1048576, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S16x2048, .f32⟩
  | .hbm, ⟨113, _⟩ => ⟨S16x2048, .f32⟩
  | .hbm, ⟨114, _⟩ => ⟨S_, .f32⟩
  | .hbm, ⟨115, _⟩ => ⟨S16, .f32⟩
  | .hbm, ⟨116, _⟩ => ⟨S_, .f32⟩
  | .hbm, ⟨117, _⟩ => ⟨S16, .f32⟩
  | .hbm, ⟨118, _⟩ => ⟨S16, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S_, .f32⟩
  | .hbm, ⟨123, _⟩ => ⟨S_, .f32⟩
  | .hbm, ⟨124, _⟩ => ⟨S_, .f32⟩
  | .hbm, ⟨125, _⟩ => ⟨S_, .f32⟩
  | .hbm, ⟨126, _⟩ => ⟨S_, .f32⟩
  | _, _ => ⟨S16x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_call0_cst_0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_cst_1 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_v2 : Ref sig .tc := ⟨.hbm, 21, rfl⟩
abbrev main_v3 : Ref sig .tc := ⟨.hbm, 22, rfl⟩
abbrev main_call1_c : Ref sig .tc := ⟨.hbm, 23, rfl⟩
abbrev main_call1_v0 : Ref sig .tc := ⟨.hbm, 24, rfl⟩
abbrev main_call1_v1 : Ref sig .tc := ⟨.hbm, 25, rfl⟩
abbrev main_call1_c_0 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_c_1 : Ref sig .tc := ⟨.hbm, 31, rfl⟩
abbrev main_call1_c_2 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_3 : Ref sig .tc := ⟨.hbm, 39, rfl⟩
abbrev main_call1_v12 : Ref sig .tc := ⟨.hbm, 40, rfl⟩
abbrev main_call1_v13 : Ref sig .tc := ⟨.hbm, 41, rfl⟩
abbrev main_call1_cst : Ref sig .tc := ⟨.hbm, 42, rfl⟩
abbrev main_call1_v14 : Ref sig .tc := ⟨.hbm, 43, rfl⟩
abbrev main_v4 : Ref sig .tc := ⟨.hbm, 44, rfl⟩
abbrev main_v5 : Ref sig .tc := ⟨.hbm, 45, rfl⟩
abbrev main_cst : Ref sig .tc := ⟨.hbm, 46, rfl⟩
abbrev main_v6 : Ref sig .tc := ⟨.hbm, 47, rfl⟩
abbrev main_cst_0 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_cst_1 : Ref sig .tc := ⟨.hbm, 52, rfl⟩
abbrev main_v10 : Ref sig .tc := ⟨.hbm, 53, rfl⟩
abbrev main_v11 : Ref sig .tc := ⟨.hbm, 54, rfl⟩
abbrev main_cst_2 : Ref sig .tc := ⟨.hbm, 55, rfl⟩
abbrev main_v12 : Ref sig .tc := ⟨.hbm, 56, rfl⟩
abbrev main_v13 : Ref sig .tc := ⟨.hbm, 57, rfl⟩
abbrev main_cst_3 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_cst_4 : Ref sig .tc := ⟨.hbm, 63, rfl⟩
abbrev main_v18 : Ref sig .tc := ⟨.hbm, 64, rfl⟩
abbrev main_v19 : Ref sig .tc := ⟨.hbm, 65, rfl⟩
abbrev main_c : Ref sig .tc := ⟨.hbm, 66, rfl⟩
abbrev main_v20 : Ref sig .tc := ⟨.hbm, 67, rfl⟩
abbrev main_v21 : Ref sig .tc := ⟨.hbm, 68, rfl⟩
abbrev main_cst_5 : Ref sig .tc := ⟨.hbm, 69, rfl⟩
abbrev main_v22 : Ref sig .tc := ⟨.hbm, 70, rfl⟩
abbrev main_v23 : Ref sig .tc := ⟨.hbm, 71, rfl⟩
abbrev main_cst_6 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_cst_7 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_cst_8 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_cst_9 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_cst_10 : Ref sig .tc := ⟨.hbm, 99, rfl⟩
abbrev main_v47 : Ref sig .tc := ⟨.hbm, 100, rfl⟩
abbrev main_v48 : Ref sig .tc := ⟨.hbm, 101, rfl⟩
abbrev main_cst_11 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_cst_12 : Ref sig .tc := ⟨.hbm, 108, rfl⟩
abbrev main_v54 : Ref sig .tc := ⟨.hbm, 109, rfl⟩
abbrev main_cst_13 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_cst_14 : Ref sig .tc := ⟨.hbm, 114, rfl⟩
abbrev main_v58 : Ref sig .tc := ⟨.hbm, 115, rfl⟩
abbrev main_cst_15 : Ref sig .tc := ⟨.hbm, 116, rfl⟩
abbrev main_v59 : Ref sig .tc := ⟨.hbm, 117, rfl⟩
abbrev main_v60 : Ref sig .tc := ⟨.hbm, 118, rfl⟩
abbrev main_cst_16 : Ref sig .tc := ⟨.hbm, 119, rfl⟩
abbrev main_v61 : Ref sig .tc := ⟨.hbm, 120, rfl⟩
abbrev main_cst_17 : Ref sig .tc := ⟨.hbm, 121, rfl⟩
abbrev main_v62 : Ref sig .tc := ⟨.hbm, 122, rfl⟩
abbrev main_cst_18 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩

abbrev nD : Nat := 1
abbrev τ : Topo := Topo.v7x

variable {F : FTy → Type} [FloatOps F]
-- ==== Proof.Body.lean ====
module

public import proofs.«01_k».proof.Proof.Gen.KernelIdeal.Frame
public import proofs.«01_k».proof.Proof.Gen.KernelIdeal.Skeleton
public import Idealize.ShloMosaic.Lib.VecWindow

@[expose] public section

set_option maxRecDepth 16384

/-!
# One run of the kernel's body, with the two stored numbers named

The body starts two copies of the halves of the parameter array, reads its four staged inputs, waits for
each copy, reads the copied half, and stores two numbers: the cross entropy and the whole loss.
`bodyRun` states that run: from any contents of the outputs and of the scratch, the two outputs end at
`nllOf` and `lossOf` of what the inputs hold, and everything else comes back as it was.
-/

noncomputable section

namespace Cert.KernelIdeal.Work

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (Pipeline.UD sig nD τ) ℕ

/-- The cross entropy the body stores, from the staged logits and labels. -/
def nllOf (x0 : Vec F S2x16 .f32) (x1 : Vec F S16 .i32) : F .f32 := k0_pay2 x0 x1

/-- The loss the body stores, from the four staged inputs and the two halves of the parameters. -/
def lossOf (x0 : Vec F S2x16 .f32) (x1 : Vec F S16 .i32) (x2 : Vec F S32768 .f32) (x3 : Vec F S16 .i32)
    (p0 p1 : Vec F S524288 .f32) : F .f32 :=
  k0_pay1 (nllOf x0 x1) (k0_pay7 (k0_pay3 x1) (k0_pay4 x2) k0_pay5 (k0_pay6 x2) x3) (k0_pay8 p0) p1

/-- The parameter array, left in HBM: the body copies from it directly. -/
abbrev params : Memref sig .tc .hbm S1048576 .f32 := Memref.whole main_arg4

/-- Contents of the parameter array on a core. -/
abbrev ParamsBuf (c : Dev nD) : Type := Buf (Elt F) (params.view.loc (c : Thread nD τ))

/-- The parameter array held whole at `f`. -/
abbrev paramsAt (c : Dev nD) (f : ParamsBuf (F := F) c) : sProp 𝕄 :=
  params.view.loc (c : Thread nD τ) ↦{fullShare} f

/-- The first half of the parameters, as the first copy reads it. -/
def lowHalf (c : Dev nD) (f : ParamsBuf (F := F) c) : Vec F S524288 .f32 :=
  (params.slice (Rect.unit (s := S1048576) ![0] S524288.size inb_S1048576_S524288_0) (fun _ => rfl)).view.read (Elt F) f

/-- The second half of the parameters, as the second copy reads it. -/
def highHalf (c : Dev nD) (f : ParamsBuf (F := F) c) : Vec F S524288 .f32 :=
  (params.slice (Rect.unit (s := S1048576) ![524288] S524288.size inb_S1048576_S524288_524288) (fun _ => rfl)).view.read (Elt F) f

/-- A load of a whole scratch buffer after one copy into all of it reads what was copied. -/
theorem readCov_copied (v : View sig .tc .vmem S524288 .f32) (w : S524288.Idx → Elt F .f32) :
    v.readCov [⟨Rect.whole S524288, w⟩] (Rect.unit (s := S524288) ![0] S524288.size inb_S524288_S524288_0).toLoadRect = w :=
  (View.readAt_full v (v.writes (Elt F) v.junk [⟨Rect.whole S524288, w⟩]) inb_S524288_S524288_0).trans
    (View.read_writes_whole v v.junk w)

set_option maxHeartbeats 1000000 in
/-- The body's run: the two outputs end at the cross entropy and the loss. -/
theorem bodyRun (c : Dev nD)
    (a0 : Memref sig .tc .vmem S2x16 .f32) (h0 : a0.IsWhole) (a1 : Memref sig .tc .vmem S16 .i32) (h1 : a1.IsWhole)
    (a2 : Memref sig .tc .vmem S32768 .f32) (h2 : a2.IsWhole) (a3 : Memref sig .tc .vmem S16 .i32) (h3 : a3.IsWhole)
    (o0 : Memref sig .tc .smem S_ .f32) (g0 : o0.IsWhole) (o1 : Memref sig .tc .smem S_ .f32) (g1 : o1.IsWhole)
    (s0 : Memref sig .tc .vmem S524288 .f32) (k0 : s0.IsWhole) (s1 : Memref sig .tc .vmem S524288 .f32) (k1 : s1.IsWhole)
    (x0 : Vec F S2x16 .f32) (x1 : Vec F S16 .i32) (x2 : Vec F S32768 .f32) (x3 : Vec F S16 .i32)
    (f : ParamsBuf (F := F) c) (W : Waits sig Unit) (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ (∃ d, owns (c : Thread nD τ) o0 fullShare d) ∗ (∃ d, owns (c : Thread nD τ) o1 fullShare d)
        ∗ (∃ d, owns (c : Thread nD τ) s0 fullShare d) ∗ (∃ d, owns (c : Thread nD τ) s1 fullShare d)
        ∗ semVal ((c : Thread nD τ), SemLoc.dma 6) 0 ∗ semVal ((c : Thread nD τ), SemLoc.dma 7) 0
        ∗ paramsAt c f ∗ owes (c : Thread nD τ) 0 W
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) o0 fullShare (fun _ => lossOf x0 x1 x2 x3 (lowHalf c f) (highHalf c f))
            ∗ owns (c : Thread nD τ) o1 fullShare (fun _ => nllOf x0 x1)
            ∗ (∃ d, owns (c : Thread nD τ) s0 fullShare d) ∗ (∃ d, owns (c : Thread nD τ) s1 fullShare d)
            ∗ semVal ((c : Thread nD τ), SemLoc.dma 6) 0 ∗ semVal ((c : Thread nD τ), SemLoc.dma 7) 0
            ∗ paramsAt c f ∗ (∃ W', owes (c : Thread nD τ) 0 W')) -∗ K ⟨⟩))
      ⊢ wp frame (wpE (defs₀ (F := F)) Variants.none c none) Set.univ
          (cc0__fused_body a0 h0 a1 h1 a2 h2 a3 h3 (Memref.whole main_arg4) (Memref.isWhole_whole _)
            o0 g0 o1 g1 s0 k0 s1 k1 cc0_scratch2 cc0_scratch3) K := by
  simp only [cc0__fused_body_eq_skeleton]; unfold cc0__fused_body_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩,
    ⟨%ds0, %fs0, -, HS0⟩, ⟨%ds1, %fs1, -, HS1⟩, Hq0, Hq1, Hp, HW, Hk⟩
  obtain rfl := h0.eq_unread hf0; obtain rfl := h1.eq_unread hf1
  obtain rfl := h2.eq_unread hf2; obtain rfl := h3.eq_unread hf3
  have e0 := (View.readAt_full a0.view (h0.unread x0) inb_S2x16_S2x16_0_0).trans hf0
  have e1 := (View.readAt_full a1.view (h1.unread x1) inb_S16_S16_0).trans hf1
  have e2 := (View.readAt_full a2.view (h2.unread x2) inb_S32768_S32768_0).trans hf2
  have e3 := (View.readAt_full a3.view (h3.unread x3) inb_S16_S16_0).trans hf3
  sl_exec
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; swap; · iexact H4
    ipureintro
    refine (View.read_writes_full o0.view f4 inb_S_S_ _ []).trans ?_
    delta bodyRun.sl.r bodyRun.sl.r_1 bodyRun.sl.v88
    delta bodyRun.sl.v79
    rw [readCov_copied s0.view, readCov_copied s1.view]
    rfl
  isplitl [H5]
  · iexists _; isplitr; swap; · iexact H5
    ipureintro
    refine (View.read_writes_full o1.view f5 inb_S_S_ _ []).trans ?_
    rfl
  isplitl [HS0]
  · iexists _, _; isplitr; swap; · iexact HS0
    ipureintro; rfl
  isplitl [HS1]
  · iexists _, _; isplitr; swap; · iexact HS1
    ipureintro; rfl
  isplitl [Hq0]; · iexact Hq0
  isplitl [Hq1]; · iexact Hq1
  isplitl [Hp]; · iexact Hp
  iexists _; iexact HW

end Cert.KernelIdeal.Work

end
-- ==== Proof.Launch.lean ====
module

public import proofs.«01_k».proof.Proof.Body
public import Idealize.ShloMosaic.Lib.Pipeline.ValueKit

@[expose] public section

set_option maxRecDepth 16384

/-!
# The launch: what every final state of the kernel program holds

The kernel runs at one grid point, with four staged inputs, two outputs of one number each, and the parameter
array left in HBM. `launch` says that every execution ends, with the five arguments as they were, every
semaphore at zero, the second result at the cross entropy and the first at the whole loss.
-/

noncomputable section

namespace Cert.KernelIdeal.Work

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## What the body is launched over -/

/-- The two copy semaphores of the body. -/
abbrev ownCells : Fin 2 → SemLoc sig := fun j => (![SemLoc.dma 6, SemLoc.dma 7] : Fin 2 → SemLoc sig) j

theorem ownCells_facts : Pipeline.OwnSemFacts spec0 ownCells := by decide

/-- The one array the body reads where it lies. -/
def held : Finset (Ref sig .tc) := {main_arg4}

theorem held_sub : held ⊆ Pipeline.restRefs sig spec0 := by decide

/-- The body's invariant, part by part: the two scratch buffers, the generator register, the two semaphores at
    zero, the parameter array at its launch contents. -/
theorem inv_eq (c : Dev nD) :
    (Pipeline.ΦD ownCells spec0 held (V m) c : sProp 𝕄)
      = iprop(iprop((∃ d, owns (c : Thread nD τ) (Memref.whole cc0_scratch0 : Memref sig .tc .vmem S524288 .f32) fullShare d)
            ∗ (∃ d, owns (c : Thread nD τ) (Memref.whole cc0_scratch1 : Memref sig .tc .vmem S524288 .f32) fullShare d))
          ∗ (∃ r, prngReg c r)
          ∗ iprop(semVal ((c : Thread nD τ), SemLoc.dma 6) 0 ∗ semVal ((c : Thread nD τ), SemLoc.dma 7) 0)
          ∗ iprop(paramsAt c (V m c main_arg4))) := by
  have hs : (Pipeline.ownSems0 (Ix := Unit) (Name := ℕ) (U := Pipeline.UD sig nD τ) (Lvl := ℕ) (Val := Elt F) (τ := τ) ownCells c : sProp 𝕄)
      = iprop(semVal ((c : Thread nD τ), SemLoc.dma 6) 0 ∗ semVal ((c : Thread nD τ), SemLoc.dma 7) 0) := by
    rw [Pipeline.ownSems0_eq_of_list c ownCells [0, 1] (by decide) (by decide)]; rfl
  have hp : (bigSep held (fun b => ((c : Thread nD τ).loc b) ↦{fullShare} V m c b) : sProp 𝕄)
      = iprop(paramsAt c (V m c main_arg4)) := by
    rw [BI.bigSep_eq_bigSepL_of_eq [main_arg4] (by decide) (by decide)]; rfl
  rw [Pipeline.ΦD_eq, scopedRest0_eq, hs, hp]
  simp only [owns_whole]; try rfl

/-! ## The proof data -/

/-- The loss at the one grid point, from the arrays the region finds. -/
def lossAt (c : Dev nD) (t : Fin cfg0.N) : F .f32 :=
  lossOf (iblk m c 0 t) (iblk m c 1 t) (iblk m c 2 t) (iblk m c 3 t)
    (lowHalf c (V m c main_arg4)) (highHalf c (V m c main_arg4))

/-- The cross entropy at the one grid point, from the arrays the region finds. -/
def nllAt (c : Dev nD) (t : Fin cfg0.N) : F .f32 := nllOf (iblk m c 0 t) (iblk m c 1 t)

/-- After the body: each input's buffer still holds its block, the outputs hold the loss and the cross entropy. -/
def data (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => fun _ => lossAt m c t
    | ⟨5, _⟩ => fun _ => nllAt m c t
  Φ _ := Pipeline.ΦD ownCells spec0 held (V m) c
  q _ := fullShare
  owed _ := 0

theorem data_A (c : Dev nD) (w : Fin cfg0.W) : (data m 0 c).A w = V m c (Pipeline.arrRef spec0 w) := by
  dsimp only [data]

theorem after_0 (c : Dev nD) (t : Fin cfg0.N) : (data m 0 c).after 0 t = iblk m c 0 t := by dsimp only [data]
theorem after_1 (c : Dev nD) (t : Fin cfg0.N) : (data m 0 c).after 1 t = iblk m c 1 t := by dsimp only [data]
theorem after_2 (c : Dev nD) (t : Fin cfg0.N) : (data m 0 c).after 2 t = iblk m c 2 t := by dsimp only [data]
theorem after_3 (c : Dev nD) (t : Fin cfg0.N) : (data m 0 c).after 3 t = iblk m c 3 t := by dsimp only [data]
theorem after_4 (c : Dev nD) (t : Fin cfg0.N) : (data m 0 c).after 4 t = fun _ => lossAt m c t := by dsimp only [data]
theorem after_5 (c : Dev nD) (t : Fin cfg0.N) : (data m 0 c).after 5 t = fun _ => nllAt m c t := by dsimp only [data]

/-- An uncut input's staging buffer holds its block when the body starts, fetched there or not. -/
theorem before_of (c : Dev nD) (w : Fin cfg0.W) (hw : (cfg0.win w).isOut = false) (hidle : ∀ i, cfg0.idle w i = false)
    (hclip : ∀ t t' : Fin cfg0.N, (cfg0.win w).index t = (cfg0.win w).index t' →
      (cfg0.win w).clip (cfg0.grid.coords t) = (cfg0.win w).clip (cfg0.grid.coords t'))
    (hkeep : ∀ t, (cfg0.win w).cut (cfg0.grid.coords t) ((data m 0 c).after w t) = (data m 0 c).blockOf w t)
    (t : Fin cfg0.N) (d) : (data m 0 c).before w t d = (data m 0 c).fetched w t d :=
  (data m 0 c).before_in_eq_fetched w hw hidle hclip hkeep t d

theorem before_0 (c : Dev nD) (t : Fin cfg0.N) (d) : (data m 0 c).before 0 t d = iblk m c 0 t :=
  (before_of m c 0 rfl (fun _ => rfl) (fun _ _ _ => rfl) (fun t => by rw [after_0]; rfl) t d).trans rfl
theorem before_1 (c : Dev nD) (t : Fin cfg0.N) (d) : (data m 0 c).before 1 t d = iblk m c 1 t :=
  (before_of m c 1 rfl (fun _ => rfl) (fun _ _ _ => rfl) (fun t => by rw [after_1]; rfl) t d).trans rfl
theorem before_2 (c : Dev nD) (t : Fin cfg0.N) (d) : (data m 0 c).before 2 t d = iblk m c 2 t :=
  (before_of m c 2 rfl (fun _ => rfl) (fun _ _ _ => rfl) (fun t => by rw [after_2]; rfl) t d).trans rfl
theorem before_3 (c : Dev nD) (t : Fin cfg0.N) (d) : (data m 0 c).before 3 t d = iblk m c 3 t :=
  (before_of m c 3 rfl (fun _ => rfl) (fun _ _ _ => rfl) (fun t => by rw [after_3]; rfl) t d).trans rfl

/-! ## The body obligation -/

/-- What the body is called with, window by window. -/
def bodyPre (c : Dev nD) (t : Fin cfg0.N) : sProp 𝕄 :=
  iprop((data m 0 c).Φ t.castSucc ∗ (data m 0 c).owesAt () t.castSucc
    ∗ (∃ d, owns (c : Thread nD τ) (win0_0.stage (cfg0.slots t 0)) fullShare ((data m 0 c).before 0 t d))
    ∗ (∃ d, owns (c : Thread nD τ) (win0_1.stage (cfg0.slots t 1)) fullShare ((data m 0 c).before 1 t d))
    ∗ (∃ d, owns (c : Thread nD τ) (win0_2.stage (cfg0.slots t 2)) fullShare ((data m 0 c).before 2 t d))
    ∗ (∃ d, owns (c : Thread nD τ) (win0_3.stage (cfg0.slots t 3)) fullShare ((data m 0 c).before 3 t d))
    ∗ (∃ d, owns (c : Thread nD τ) (win0_4.stage (cfg0.slots t 4)) fullShare ((data m 0 c).before 4 t d))
    ∗ (∃ d, owns (c : Thread nD τ) (win0_5.stage (cfg0.slots t 5)) fullShare ((data m 0 c).before 5 t d)))

/-- What the body returns, window by window. -/
def bodyPost (c : Dev nD) (t : Fin cfg0.N) : sProp 𝕄 :=
  iprop((data m 0 c).Φ t.succ ∗ (data m 0 c).owesAt () t.succ
    ∗ owns (c : Thread nD τ) (win0_0.stage (cfg0.slots t 0)) fullShare ((data m 0 c).after 0 t)
    ∗ owns (c : Thread nD τ) (win0_1.stage (cfg0.slots t 1)) fullShare ((data m 0 c).after 1 t)
    ∗ owns (c : Thread nD τ) (win0_2.stage (cfg0.slots t 2)) fullShare ((data m 0 c).after 2 t)
    ∗ owns (c : Thread nD τ) (win0_3.stage (cfg0.slots t 3)) fullShare ((data m 0 c).after 3 t)
    ∗ owns (c : Thread nD τ) (win0_4.stage (cfg0.slots t 4)) fullShare ((data m 0 c).after 4 t)
    ∗ owns (c : Thread nD τ) (win0_5.stage (cfg0.slots t 5)) fullShare ((data m 0 c).after 5 t))

set_option maxHeartbeats 800000 in
/-- The body at the grid point, from `bodyRun`. -/
theorem body_sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (data m 0 c).Φ t.succ = (data m 0 c).Φ t.castSucc from rfl,
    after_0, after_1, after_2, after_3, after_4, after_5]
  rw [show (data m 0 c).Φ t.castSucc = Pipeline.ΦD ownCells spec0 held (V m) c from rfl, inv_eq]
  unfold Dat.owesAt Pipeline.owesWithin
  rw [show (data m 0 c).owed t.castSucc = 0 from rfl, show (data m 0 c).owed t.succ = 0 from rfl]
  iintro ⟨⟨⟨HS0, HS1⟩, Hg, ⟨Hq0, Hq1⟩, Hp⟩, ⟨%W, -, HW⟩, ⟨%d0, H0⟩, ⟨%d1, H1⟩, ⟨%d2, H2⟩, ⟨%d3, H3⟩, ⟨%d4, H4⟩, ⟨%d5, H5⟩⟩
  iapply (bodyRun c _ _ _ _ _ _ _ _ _ _ _ _ _ _ _ _ (iblk m c 0 t) (iblk m c 1 t) (iblk m c 2 t) (iblk m c 3 t)
    (V m c main_arg4) W _)
  isplitl [H0]; · iexact H0
  isplitl [H1]; · iexact H1
  isplitl [H2]; · iexact H2
  isplitl [H3]; · iexact H3
  isplitl [H4]; · iexists _; iexact H4
  isplitl [H5]; · iexists _; iexact H5
  isplitl [HS0]; · iexact HS0
  isplitl [HS1]; · iexact HS1
  isplitl [Hq0]; · iexact Hq0
  isplitl [Hq1]; · iexact Hq1
  isplitl [Hp]; · iexact Hp
  isplitl [HW]; · iexact HW
  iintro ⟨H0, H1, H2, H3, H4, H5, HS0, HS1, Hq0, Hq1, Hp, ⟨%W', HW'⟩⟩
  isplitl [HS0 HS1 Hg Hq0 Hq1 Hp]
  · isplitl [HS0 HS1]
    · isplitl [HS0]; · iexact HS0
      iexact HS1
    isplitl [Hg]; · iexact Hg
    isplitl [Hq0 Hq1]
    · isplitl [Hq0]; · iexact Hq0
      iexact Hq1
    iexact Hp
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  iexact H5

/-- The pipeline's body obligation. -/
theorem body_ok (c : Dev nD) : BodyObligation (data (F := F) m 0 c) (defs₀ (F := F)) Variants.none () Set.univ := fun t => by
  have hrow : defs₀ (F := F) .tc cfg0.body (cfg0.bodyArgs t (cfg0.slots t)) = bodyAt0 t := by
    unfold defs₀; rw [Defs.onTc_tc]
  rw [bigSep_W0, bigSep_W0, hrow]
  exact triple_restated (body_sound m c t) rfl .rfl fun _ => .rfl

/-! ## The run -/

set_option maxHeartbeats 800000 in
/-- The host's one operation and then the region. -/
theorem host_then_region (𝒱₀ : Variants) : Pipeline.HMain (Ix := Unit) (Name := ℕ) (U := Pipeline.UD sig nD τ) (Lvl := ℕ)
    cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- Every execution ends with each array as the pipeline's write-backs leave it and every semaphore at zero. -/
theorem run_raw : θ_run defs (onTc (τ := τ) (main (F := F))) (s₀ m ρ)
    (fun r => Pipeline.FramePost cfgs (data m) 0 (V m) r ∧ r.2.sem = fun _ => 0) :=
  Pipeline.θ_run_frame_dma (Q' := _) cfgs (data m) (0 : Fin 1) launch0 ownCells defs₀ Variants.none ownCells_facts held held_sub
    m ρ main (hbody := fun c => (body_ok m c).loose) (hshare := fun c => (data m 0 c).share_full fun _ => rfl)
    (howed := fun _ _ => rfl) (V := V m) (hmain := host_then_region m Variants.none) (hA := data_A m)
    (hin := fun _ => .rfl) (hout := fun _ => .rfl)

/-! ## The two results -/

/-- The loss as a function of the launch contents of the five arguments. -/
def loss (c : Dev nD) : F .f32 :=
  lossOf (transpose S2x16 [1, 0] (m ((c : Thread nD τ).loc main_arg0)) transposes_S16x2_S2x16_1_0)
    (m ((c : Thread nD τ).loc main_arg1)) (m ((c : Thread nD τ).loc main_arg2)) (m ((c : Thread nD τ).loc main_arg3))
    (lowHalf c (m ((c : Thread nD τ).loc main_arg4))) (highHalf c (m ((c : Thread nD τ).loc main_arg4)))

/-- The cross entropy as a function of the launch contents of logits and labels. -/
def nll (c : Dev nD) : F .f32 :=
  nllOf (transpose S2x16 [1, 0] (m ((c : Thread nD τ).loc main_arg0)) transposes_S16x2_S2x16_1_0)
    (m ((c : Thread nD τ).loc main_arg1))

theorem V_logits (c : Dev nD) : V m c main_call0_v0
    = transpose S2x16 [1, 0] (m ((c : Thread nD τ).loc main_arg0)) transposes_S16x2_S2x16_1_0 := by
  rfl

/-- The one grid point stages block zero of every input. -/
theorem index_0 : ∀ (t : Fin cfg0.N) (a : Fin 2), win0_0.index t a = 0 := by decide
theorem index_1 : ∀ (t : Fin cfg0.N) (a : Fin 1), win0_1.index t a = 0 := by decide
theorem index_2 : ∀ (t : Fin cfg0.N) (a : Fin 1), win0_2.index t a = 0 := by decide
theorem index_3 : ∀ (t : Fin cfg0.N) (a : Fin 1), win0_3.index t a = 0 := by decide

/-- So each staged block is the whole array. -/
theorem iblk_0 (c : Dev nD) (t : Fin cfg0.N) : iblk m c 0 t
    = transpose S2x16 [1, 0] (m ((c : Thread nD τ).loc main_arg0)) transposes_S16x2_S2x16_1_0 := by
  rw [← V_logits]; funext y; blk_ext [iblk, index_0]
theorem iblk_1 (c : Dev nD) (t : Fin cfg0.N) : iblk m c 1 t = m ((c : Thread nD τ).loc main_arg1) := by
  rw [← V_main_arg1 m c]; funext y; blk_ext [iblk, index_1]
theorem iblk_2 (c : Dev nD) (t : Fin cfg0.N) : iblk m c 2 t = m ((c : Thread nD τ).loc main_arg2) := by
  rw [← V_main_arg2 m c]; funext y; blk_ext [iblk, index_2]
theorem iblk_3 (c : Dev nD) (t : Fin cfg0.N) : iblk m c 3 t = m ((c : Thread nD τ).loc main_arg3) := by
  rw [← V_main_arg3 m c]; funext y; blk_ext [iblk, index_3]

theorem lossAt_eq (c : Dev nD) (t : Fin cfg0.N) : lossAt m c t = loss m c := by
  unfold lossAt loss; rw [iblk_0, iblk_1, iblk_2, iblk_3, V_main_arg4]

theorem nllAt_eq (c : Dev nD) (t : Fin cfg0.N) : nllAt m c t = nll m c := by
  unfold nllAt nll; rw [iblk_0, iblk_1]

/-- The first result ends holding the loss. -/
theorem final_loss (c : Dev nD) : (data m 0 c).arrAt 4 cfg0.N = fun _ => loss m c := by
  refine (data m 0 c).arrAt_eq_of_covers 4 _ (by decide +kernel) fun t _ y => ?_
  rw [after_4, lossAt_eq]; rfl

/-- The second result ends holding the cross entropy. -/
theorem final_nll (c : Dev nD) : (data m 0 c).arrAt 5 cfg0.N = fun _ => nll m c := by
  refine (data m 0 c).arrAt_eq_of_covers 5 _ (by decide +kernel) fun t _ y => ?_
  rw [after_5, nllAt_eq]; rfl

/-- THE LAUNCH: every execution ends with the two results at `loss` and `nll`, the five arguments as they were
    launched, and every semaphore at zero. -/
theorem launch : θ_run defs (onTc (τ := τ) (main (F := F))) ⟨m, fun _ => 0, ρ⟩ (fun r => (∀ c : Dev nD,
      r.2.mem ((c.tc : Thread nD τ).loc main_v0_0) = (fun _ => loss m c)
      ∧ r.2.mem ((c.tc : Thread nD τ).loc main_v0_1) = (fun _ => nll m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨((h.1 c).1 4).trans (final_loss m c), ((h.1 c).1 5).trans (final_nll m c),
      ((h.1 c).2 main_arg0 (Pipeline.mem_restRefs_of main_arg0 (by decide) (by decide))).trans (V_main_arg0 m c),
      ((h.1 c).1 1).trans (((data m 0 c).arrAt_in 1 rfl _).trans ((data_A m c 1).trans (V_main_arg1 m c))),
      ((h.1 c).1 2).trans (((data m 0 c).arrAt_in 2 rfl _).trans ((data_A m c 2).trans (V_main_arg2 m c))),
      ((h.1 c).1 3).trans (((data m 0 c).arrAt_in 3 rfl _).trans ((data_A m c 3).trans (V_main_arg3 m c))),
      ((h.1 c).2 main_arg4 (Pipeline.mem_restRefs_of main_arg4 (by decide) (by decide))).trans (V_main_arg4 m c)⟩,
    h.2⟩) (run_raw m ρ)

end Cert.KernelIdeal.Work

end
-- ==== Proof.KernelFrame.lean ====
module

public import proofs.«01_k».proof.Defs
public import proofs.«01_k».proof.Proof.Gen.Kernel
public import proofs.«01_k».proof.Proof.Launch

@[expose] public section

set_option maxRecDepth 16384

/-!
# The kernel's own run

The kernel and the idealised kernel are the same program but for one constant, which the second gives by name. With the
name read as the word that the kernel has there, the run of the idealised kernel is the run of the kernel.
-/

noncomputable section

namespace Cert.Kernel.Work

open Idealize.ShloMosaic Idealize.SL.Sem

variable {F : FTy → Type} [FloatOps F]

/-- Every named constant read as its float word. -/
@[reducible] def words : Named F where
  named _ _ {φ} bits := Scalar.ofBits φ bits

attribute [local instance] words

/-- The two bodies are one. -/
theorem body_eq : Cert.KernelIdeal.cc0__fused_body (F := F) = Cert.Kernel.cc0__fused_body (F := F) := rfl

/-- The two tables of kernel functions are one. -/
theorem kernels_eq : Cert.KernelIdeal.defs₀ (F := F) = Cert.Kernel.defs₀ (F := F) := by
  funext p ℓ
  cases p with
  | tc =>
    match ℓ with
    | ⟨0, _⟩ => rfl
  | scScalar _ => rfl
  | scVector _ _ => rfl

/-- The two host programs are one. -/
theorem main_eq : Cert.KernelIdeal.main (F := F) = Cert.Kernel.main (F := F) := rfl

/-- The two tables of functions, with the pipeline's, are one. -/
theorem defs_eq : Cert.KernelIdeal.defs (F := F) = Cert.Kernel.defs (F := F) :=
  congrArg (Pipeline.defs Cert.KernelIdeal.pcfgs) kernels_eq

/-- The kernel ends with its arguments unchanged and its semaphores at zero. -/
theorem frame : Cert.quiescent_Kernel := fun m ρ _ => by
  have h := Cert.KernelIdeal.Work.launch (F := Bits) m ρ
  rw [defs_eq, main_eq] at h
  exact (θ_run Cert.Kernel.defs _ _).mono (fun _ h => ⟨fun c => (h.1 c).2.2, h.2⟩) h

end Cert.Kernel.Work

end
-- ==== Proof.RefTerm.lean ====
module

public import proofs.«01_k».proof.Proof.Gen.ReferenceIdeal.Run
public import Idealize.ShloMosaic.Lib.Pointwise

@[expose] public section

set_option maxRecDepth 16384

/-!
# What the reference computes, stage by stage, as arrays

The two results of the reference, each written over the argument arrays as variables and cut at the values a
reader would name: the row-wise log-softmax, the picked log-probabilities, the mean positions, the widths, the normal
densities, their normalised shares. `reference` says that every execution of the reference ends with
these two arrays and with its arguments unchanged.
-/

noncomputable section

namespace Cert.ReferenceIdeal.Work

open Idealize.ShloMosaic Idealize.ShloMosaic.TcCoe Idealize.SL.Sem
open Cert.ReferenceIdeal Cert.ReferenceIdeal.Gen

/-- A vector over the rows as a column. -/
abbrev column (v : FVec Ideal S16 .f32) : FVec Ideal S16x1 .f32 := broadcastInDim S16x1 ![0] bcast_S16_S16x1_0 v

/-- A column repeated along the attention axis. -/
abbrev along (v : FVec Ideal S16x1 .f32) : FVec Ideal S16x2048 .f32 :=
  broadcastInDim S16x2048 ![0, 1] bcast_S16x1_S16x2048_0_1 v

/-- The scalar zero every sum starts from. -/
abbrev zero : FVec Ideal S_ .f32 := constant S_ .f32 0x00000000#32

/-- The logits less their row's maximum. -/
def shifted (L : FVec Ideal S16x2 .f32) : FVec Ideal S16x2 .f32 :=
  subf L (broadcastInDim S16x2 ![0, 1] bcast_S16x1_S16x2_0_1
    (column (maximumf (broadcastInDim S16 ![] bcast_S_S16 (constant S_ .f32 0xFF800000#32))
      (Host.reduce FloatOps.maximumf L (constant S_ .f32 0xFF800000#32) reducesTo_S16x2_S16_d1 h_S_))))

/-- The row-wise log-softmax of the logits. -/
def logSoftmax (L : FVec Ideal S16x2 .f32) : FVec Ideal S16x2 .f32 :=
  subf (shifted L) (broadcastInDim S16x2 ![0, 1] bcast_S16x1_S16x2_0_1
    (Host.log (column (Host.reduceAdd (Host.exp (shifted L)) zero reducesTo_S16x2_S16_d1 h_S_))))

/-- The class index of each row, a negative label counted from the end. -/
def classes (lab : IVec S16 32) : IVec S16x1x1 32 :=
  have l : IVec S16x1 32 := broadcastInDim S16x1 ![0] bcast_S16_S16x1_0 lab
  shapeCast S16x1x1 (select (cmpi .slt l (broadcastInDim S16x1 ![] bcast_S_S16x1 (constantI S_ 32 0#32)))
    (addi l (broadcastInDim S16x1 ![] bcast_S_S16x1 (constantI S_ 32 2#32))) l) shapeCasts_S16x1_S16x1x1

/-- Whether each row's class index lies among the classes. -/
def known (k : IVec S16x1x1 32) : IVec S16x1 1 :=
  Host.reduce IntOp.andi
    (andi (cmpi .sge k (broadcastInDim S16x1x1 ![] bcast_S_S16x1x1 (constantI S_ 32 0#32)))
      (cmpi .sle k (broadcastInDim S16x1x1 ![0, 1, 2] bcast_S1x1x1_S16x1x1_0_1_2
        (broadcastInDim S1x1x1 ![2] bcast_S1_S1x1x1_2 (constantI S1 32 1#32)))))
    (constantI S_ 1 1#1) reducesTo_S16x1x1_S16x1_d2 h_S_

/-- The entry of each row at its class index. -/
def taken (P : FVec Ideal S16x2 .f32) (k : IVec S16x1x1 32) : FVec Ideal S16x1 .f32 :=
  Host.gather gather_S16x2_S16x1x1_S16x1_n_1_0_0_1_2_11 P k

/-- The log-probability of each row's label. -/
def picked (L : FVec Ideal S16x2 .f32) (lab : IVec S16 32) : FVec Ideal S16 .f32 :=
  shapeCast S16 (select (known (classes lab)) (taken (logSoftmax L) (classes lab))
    (broadcastInDim S16x1 ![] bcast_S_S16x1 (constant S_ .f32 0x7FC00000#32))) shapeCasts_S16x1_S16

/-- The cross entropy: minus the mean of the picked log-probabilities. -/
def entropy (L : FVec Ideal S16x2 .f32) (lab : IVec S16 32) : FVec Ideal S_ .f32 :=
  Host.negf (Host.divf (Host.reduceAdd (picked L lab) zero reducesTo_S16_S_d0 h_S_) (constant S_ .f32 0x41800000#32))

/-- The attention weights as one row per example. -/
abbrev weights (a : FVec Ideal S32768 .f32) : FVec Ideal S16x2048 .f32 := shapeCast S16x2048 a shapeCasts_S32768_S16x2048

/-- The positions `1/2048, …, 2048/2048`, repeated on every row. -/
def positions : FVec Ideal S16x2048 .f32 :=
  broadcastInDim S16x2048 ![0, 1] bcast_S1x2048_S16x2048_0_1 (broadcastInDim S1x2048 ![1] bcast_S2048_S1x2048_1
    (Host.divf (addf (broadcastInDim S2048 ![] bcast_S_S2048 (constant S_ .f32 0x3F800000#32)) (sitofp .f32 (iotaInDim S2048 32 0)))
      (broadcastInDim S2048 ![] bcast_S_S2048 (constant S_ .f32 0x45000000#32))))

/-- The mean position of each row under its weights. -/
def centre (w : FVec Ideal S16x2048 .f32) : FVec Ideal S16 .f32 :=
  Host.divf (Host.reduceAdd (mulf positions w) zero reducesTo_S16x2048_S16_d1 h_S_)
    (Host.reduceAdd w zero reducesTo_S16x2048_S16_d1 h_S_)

/-- The width of each row's normal density, from its label and its length. -/
def width (lab len : IVec S16 32) : FVec Ideal S16 .f32 :=
  select (cmpi .eq lab (broadcastInDim S16 ![] bcast_S_S16 (constantI S_ 32 1#32)))
    (Host.divf (broadcastInDim S16 ![] bcast_S_S16 (constant S_ .f32 0x3F800000#32)) (sitofp .f32 len))
    (Host.divf (broadcastInDim S16 ![] bcast_S_S16 (constant S_ .f32 0x447A0000#32)) (sitofp .f32 len))

/-- Each position's distance from the centre `μ`, in widths `σ`. -/
def deviation (μ σ : FVec Ideal S16 .f32) : FVec Ideal S16x2048 .f32 :=
  Host.divf (subf positions (along (column μ))) (along (column σ))

/-- The square root of `2π`. -/
def rootTwoPi : FVec Ideal S_ .f32 :=
  Host.sqrt (mulf (constant S_ .f32 0x40000000#32) (Host.acos (constant S_ .f32 0xBF800000#32)))

/-- The normal density of mean `μ` and width `σ` at every position. -/
def density (μ σ : FVec Ideal S16 .f32) : FVec Ideal S16x2048 .f32 :=
  Host.divf
    (Host.exp (mulf (broadcastInDim S16x2048 ![] bcast_S_S16x2048 (constant S_ .f32 0xBF000000#32))
      (mulf (deviation μ σ) (deviation μ σ))))
    (along (mulf (column σ) (broadcastInDim S16x1 ![] bcast_S_S16x1 rootTwoPi)))

/-- The densities divided by their row's sum, a millionth added to it. -/
def share (d : FVec Ideal S16x2048 .f32) : FVec Ideal S16x2048 .f32 :=
  Host.divf d (along (addf (column (Host.reduceAdd d zero reducesTo_S16x2048_S16_d1 h_S_))
    (broadcastInDim S16x1 ![] bcast_S_S16x1 (constant S_ .f32 0x358637BD#32))))

/-- Half the mean over the rows of the mean over a row of the squared differences of `w` and `r`. -/
def distance (w r : FVec Ideal S16x2048 .f32) : FVec Ideal S_ .f32 :=
  mulf (constant S_ .f32 0x3F000000#32)
    (Host.divf
      (Host.reduceAdd
        (Host.divf (Host.reduceAdd (mulf (subf w r) (subf w r)) zero reducesTo_S16x2048_S16_d1 h_S_)
          (broadcastInDim S16 ![] bcast_S_S16 (constant S_ .f32 0x45000000#32)))
        zero reducesTo_S16_S_d0 h_S_)
      (constant S_ .f32 0x41800000#32))

/-- The penalty on the parameters: a small multiple of the sum of their absolute values. -/
def penalty (p : FVec Ideal S1048576 .f32) : FVec Ideal S_ .f32 :=
  mulf (constant S_ .f32 0x3851B717#32) (Host.reduceAdd (Host.absf p) zero reducesTo_S1048576_S_d0 h_S_)

/-- The loss: cross entropy, parameter penalty and distance of the weights from the normal shares. -/
def total (L : FVec Ideal S16x2 .f32) (lab : IVec S16 32) (a : FVec Ideal S32768 .f32) (len : IVec S16 32)
    (p : FVec Ideal S1048576 .f32) : FVec Ideal S_ .f32 :=
  addf (addf (entropy L lab) (penalty p)) (distance (weights a) (share (density (centre (weights a)) (width lab len))))

/-- Every execution of the reference ends with the loss and the cross entropy at the stages above, applied to the
    arguments, and with the arguments unchanged. -/
theorem reference (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v65)
        = total (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4))
      ∧ r.2.mem ((c.tc : Thread nD τ).loc main_v8)
        = entropy (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono
    (fun _ h c => ⟨(h c).1.trans (by delta Value.res_main_v65; rfl), (h c).2.1.trans rfl, (h c).2.2⟩)
    (Value.run m ρ)

end Cert.ReferenceIdeal.Work

end
-- ==== Proof.Precondition.lean ====
module

public import proofs.«01_k».proof.Proof.Gen.Pre_in_range
public import Idealize.ShloMosaic.Lib.ReduceAll
public import Idealize.ShloMosaic.Lib.Pointwise

@[expose] public section

set_option maxRecDepth 16384

/-!
# What the precondition says

`in_range` of the arguments is one bit. When the bit is 1, every label is 0 or 1 and no logit is plus infinity.
-/

noncomputable section

namespace Cert.Pre_in_range.Work

open Idealize.ShloMosaic Idealize.ShloMosaic.TcCoe
open Cert.Pre_in_range Cert.Pre_in_range.Gen

instance : Subsingleton S_.Idx := ⟨fun a b => funext fun x => x.elim0⟩

/-- A word that is at least 0 and less than 2, read signed, is 0 or 1. -/
theorem zero_or_one (w : BitVec 32) (h : IntOp.andi (IntOp.cmpi .sge w 0#32) (IntOp.cmpi .slt w 2#32) = 1#1) :
    w = 0#32 ∨ w = 1#32 := by
  obtain ⟨h0, h1⟩ := IntOp.andi_eq_one.1 h
  rw [IntOp.cmpi_sge] at h0
  rw [IntOp.cmpi_slt] at h1
  have z : (0#32 : BitVec 32).toInt = 0 := by decide
  have o : (1#32 : BitVec 32).toInt = 1 := by decide
  have t : (2#32 : BitVec 32).toInt = 2 := by decide
  rw [z] at h0
  rw [t] at h1
  rcases (by omega : w.toInt = 0 ∨ w.toInt = 1) with e | e
  · exact .inl (BitVec.eq_of_toInt_eq (e.trans z.symm))
  · exact .inr (BitVec.eq_of_toInt_eq (e.trans o.symm))

/-- The precondition read back. -/
theorem in_range (L : FVec Ideal S16x2 .f32) (lab : IVec S16 32) (a : FVec Ideal S32768 .f32) (len : IVec S16 32)
    (p : FVec Ideal S1048576 .f32) (h : fn (F := Ideal) L lab a len p = fun _ => 1#1) :
    (∀ i : Fin 16, lab (ix1 i) = 0#32 ∨ lab (ix1 i) = 1#32) ∧ ∀ (i : Fin 16) (k : Fin 2), L (ix2 i k) ≠ ⊤ := by
  have h' := congrFun h (fun x => x.elim0)
  obtain ⟨hl, hL⟩ := IntOp.andi_eq_one.1 h'
  constructor
  · intro i
    exact zero_or_one _ (Host.reduce_andi_all _ _ _ _ _ hl (ix1 i))
  · intro i k
    have hlt := Host.reduce_andi_all _ _ _ _ _ hL (ix2 i k)
    pointwise at hlt
    intro e
    rw [e] at hlt
    simp at hlt

end Cert.Pre_in_range.Work

end
-- ==== Proof.Plain.lean ====
module

public import Idealize.ShloMosaic.Lib.Pointwise

@[expose] public section

set_option maxRecDepth 16384

/-!
# The values both programs are made of, over the extended reals

The kernel and the reference agree on what a position, a mean position, a width and a normalised share are. They
differ in how they write the normal density, the mean of the squared differences, the log-softmax and
the sum over the parameters. Each of these differences is one equation here, free of both programs.
-/

noncomputable section

namespace Cert.Work

open Idealize.ShloMosaic

/-! ## What the programs share -/

/-- Position `l` of the attention axis: `(1 + l) / 2048`. -/
def pos (l : Fin 2048) : EReal :=
  Ideal.div (1 + FloatOps.sitofp (F := Ideal) .f32 (BitVec.ofNat 32 l)) (Ideal.ofBits .f32 0x45000000#32)

/-- The mean position under the weights `w`. -/
def mean (w : Fin 2048 → EReal) : EReal := Ideal.div (∑ l, pos l * w l) (∑ l, w l)

/-- The width of a row's normal density: one over its length if its label is 1, a thousand over it otherwise. -/
def wid (lab len : BitVec 32) : EReal :=
  Scalar.select (IntOp.cmpi .eq lab 1#32) (Ideal.div 1 (FloatOps.sitofp (F := Ideal) .f32 len))
    (Ideal.div (Ideal.ofBits .f32 0x447A0000#32) (FloatOps.sitofp (F := Ideal) .f32 len))

/-- How many widths `σ` position `l` lies from `μ`. -/
def dev (μ σ : EReal) (l : Fin 2048) : EReal := Ideal.div (pos l - μ) σ

/-- The share of `d l` in the sum of `d` with a millionth added. -/
def part (d : Fin 2048 → EReal) (l : Fin 2048) : EReal := Ideal.div (d l) (∑ k, d k + Ideal.ofBits .f32 0x358637BD#32)

/-! ## The words of the constants -/

theorem word_two : Ideal.ofBits .f32 0x40000000#32 = ((2 : ℝ) : EReal) := by
  simp [Ideal.ofBits, Ideal.ieee]; rw [← EReal.coe_mul]; norm_num
theorem word_neg_one : Ideal.ofBits .f32 0xBF800000#32 = ((-1 : ℝ) : EReal) := by
  simp [Ideal.ofBits, Ideal.ieee]; rw [← EReal.coe_mul]; norm_num
theorem word_16 : Ideal.ofBits .f32 0x41800000#32 = ((16 : ℝ) : EReal) := by
  simp [Ideal.ofBits, Ideal.ieee]; rw [← EReal.coe_mul]; norm_num
theorem word_1000 : Ideal.ofBits .f32 0x447A0000#32 = ((1000 : ℝ) : EReal) := by
  simp [Ideal.ofBits, Ideal.ieee]; rw [← EReal.coe_mul]; norm_num
theorem word_2048 : Ideal.ofBits .f32 0x45000000#32 = ((2048 : ℝ) : EReal) := by
  simp [Ideal.ofBits, Ideal.ieee]; rw [← EReal.coe_mul]; norm_num
theorem word_32768 : Ideal.ofBits .f32 0x47000000#32 = ((32768 : ℝ) : EReal) := by
  simp [Ideal.ofBits, Ideal.ieee]; rw [← EReal.coe_mul]; norm_num
theorem word_bot : Ideal.ofBits .f32 0xFF800000#32 = (⊥ : EReal) := by
  simp [Ideal.ofBits, Ideal.ieee]

/-! ## The normal density -/

/-- A nonzero number over a whole number is a nonzero real, or `⊤` when the whole number is zero. -/
theorem div_int_cases (x : ℝ) (hx : 0 < x) (n : BitVec 32) :
    Ideal.div (x : EReal) (FloatOps.sitofp (F := Ideal) .f32 n) = ⊤
      ∨ ∃ s : ℝ, s ≠ 0 ∧ Ideal.div (x : EReal) (FloatOps.sitofp (F := Ideal) .f32 n) = (s : EReal) := by
  change Ideal.div (x : EReal) ((n.toInt : ℝ) : EReal) = ⊤
    ∨ ∃ s : ℝ, s ≠ 0 ∧ Ideal.div (x : EReal) ((n.toInt : ℝ) : EReal) = (s : EReal)
  by_cases h : (n.toInt : ℝ) = 0
  · left
    simp [Ideal.div, h, hx]
  · right
    refine ⟨x * (1 / n.toInt), mul_ne_zero hx.ne' (one_div_ne_zero h), ?_⟩
    rw [Ideal.div_coe h]
    norm_cast

/-- A row's width is a nonzero real, or `⊤` when its length is zero. -/
theorem wid_cases (lab len : BitVec 32) : wid lab len = ⊤ ∨ ∃ s : ℝ, s ≠ 0 ∧ wid lab len = (s : EReal) := by
  unfold wid Scalar.select
  split
  · exact div_int_cases 1 one_pos len
  · rw [word_1000]
    exact div_int_cases 1000 (by norm_num) len

/-- Dividing by `σ · q` is multiplying by `q⁻¹ / σ`, for a positive `q` and a width `σ`. -/
theorem div_width (e σ : EReal) (hσ : σ = ⊤ ∨ ∃ s : ℝ, s ≠ 0 ∧ σ = (s : EReal)) (q : ℝ) (hq : 0 < q) :
    Ideal.div e (σ * (q : EReal)) = e * Ideal.div ((q⁻¹ : ℝ) : EReal) σ := by
  rcases hσ with rfl | ⟨s, hs, rfl⟩
  · rw [EReal.top_mul_coe_of_pos hq]
    simp [Ideal.div]
  · have h : ((s : EReal) * (q : EReal)) = ((s * q : ℝ) : EReal) := by norm_cast
    rw [h, Ideal.div_coe (mul_ne_zero hs hq.ne'), Ideal.div_coe hs, ← EReal.coe_mul]
    congr 2
    field_simp

/-- The square root of twice the arc cosine of `-1` is `√(2π)`. -/
theorem root_two_pi : Ideal.sqrt (Ideal.ofBits .f32 0x40000000#32 * Ideal.acos (Ideal.ofBits .f32 0xBF800000#32))
    = ((Real.sqrt (2 * Real.pi) : ℝ) : EReal) := by
  rw [word_two, word_neg_one]
  have h : Ideal.acos ((-1 : ℝ) : EReal) = ((Real.pi : ℝ) : EReal) := by
    change (if (-1 : ℝ) ≤ -1 ∧ (-1 : ℝ) ≤ 1 then ((Real.arccos (-1) : ℝ) : EReal) else ⊥) = _
    rw [if_pos (by norm_num), Real.arccos_neg_one]
  rw [h, ← EReal.coe_mul]
  change (if 2 * Real.pi < 0 then (⊥ : EReal) else ((Real.sqrt (2 * Real.pi) : ℝ) : EReal)) = _
  rw [if_neg (not_lt.2 (mul_nonneg two_pos.le Real.pi_pos.le))]

/-- The normal density as the kernel writes it: the exponential times a quotient of the constant `1/√(2π)`. -/
def kerDensity (μ σ : EReal) (l : Fin 2048) : EReal :=
  Ideal.exp (Ideal.ofBits .f32 0xBF000000#32 * dev μ σ l * dev μ σ l)
    * Ideal.div (((Real.sqrt (2 * Real.pi))⁻¹ : ℝ) : EReal) σ

/-- The normal density as the reference writes it: the exponential over `σ · √(2π)`. -/
def refDensity (μ σ : EReal) (l : Fin 2048) : EReal :=
  Ideal.div (Ideal.exp (Ideal.ofBits .f32 0xBF000000#32 * (dev μ σ l * dev μ σ l)))
    (σ * Ideal.sqrt (Ideal.ofBits .f32 0x40000000#32 * Ideal.acos (Ideal.ofBits .f32 0xBF800000#32)))

/-- The two forms of the normal density agree at every width a row can have. -/
theorem density_eq (μ : EReal) (lab len : BitVec 32) : refDensity μ (wid lab len) = kerDensity μ (wid lab len) := by
  funext l
  unfold refDensity kerDensity
  rw [root_two_pi, div_width _ _ (wid_cases lab len) _ (Real.sqrt_pos.2 (by positivity)), mul_assoc (Ideal.ofBits _ _)]

/-! ## The mean of the squared differences -/

/-- A nonnegative real factor comes out of a sum over the extended reals. -/
theorem sum_mul_coe {n : ℕ} (f : Fin n → EReal) (r : ℝ) (hr : 0 ≤ r) : ∑ i, f i * (r : EReal) = (∑ i, f i) * (r : EReal) := by
  induction n with
  | zero => simp
  | succ n ih =>
    rw [Fin.sum_univ_succ, Fin.sum_univ_succ, ih,
      EReal.right_distrib_of_nonneg_of_ne_top (EReal.coe_nonneg.2 hr) (EReal.coe_ne_top r)]

/-- The mean over 16 rows of the means over 2048 positions is the mean over all 32768 entries. -/
theorem mean_of_means (f : Fin 16 → EReal) :
    Ideal.div (∑ i, Ideal.div (f i) (Ideal.ofBits .f32 0x45000000#32)) (Ideal.ofBits .f32 0x41800000#32)
      = Ideal.div (∑ i, f i) (Ideal.ofBits .f32 0x47000000#32) := by
  rw [word_2048, word_16, word_32768, Ideal.div_coe (by norm_num), Ideal.div_coe (by norm_num)]
  simp only [Ideal.div_coe (show (2048 : ℝ) ≠ 0 by norm_num)]
  rw [sum_mul_coe _ _ (by norm_num), mul_assoc, ← EReal.coe_mul]
  norm_num

/-! ## The cross entropy -/

/-- The mean of `-s` over 16 rows is minus the mean of `s`. -/
theorem neg_mean (s : EReal) :
    Ideal.div (0 - s) (Ideal.ofBits .f32 0x41800000#32) = -Ideal.div s (Ideal.ofBits .f32 0x41800000#32) := by
  rw [word_16, Ideal.div_coe (by norm_num), Ideal.div_coe (by norm_num), zero_sub, EReal.neg_mul]

/-- The normaliser of a row of two logits, its maximum taken out: `log (exp (x - M) + exp (y - M))`. -/
def lse (x y : EReal) : EReal := Ideal.log (Ideal.exp (x - max x y) + Ideal.exp (y - max x y))

/-- A row whose greater logit is real has a real normaliser. -/
theorem lse_real (x y : EReal) (hx : x ≠ ⊤) (hy : y ≠ ⊤) (h : max x y ≠ ⊥) : ∃ g : ℝ, lse x y = (g : EReal) := by
  have key : ∀ u : EReal, u ≠ ⊤ → ∃ e : ℝ, 0 ≤ e ∧ Ideal.exp u = (e : EReal) := by
    intro u hu
    induction u with
    | bot => exact ⟨0, le_rfl, rfl⟩
    | top => exact absurd rfl hu
    | coe r => exact ⟨Real.exp r, (Real.exp_pos r).le, rfl⟩
  have hM : max x y ≠ ⊤ := by
    rcases max_choice x y with e | e <;> rw [e] <;> assumption
  unfold lse
  generalize hm : max x y = M at h hM
  lift M to ℝ using ⟨hM, h⟩
  have sub_top : ∀ u : EReal, u ≠ ⊤ → u - (M : EReal) ≠ ⊤ := by
    intro u hu
    induction u with
    | bot => simp
    | top => exact absurd rfl hu
    | coe r => rw [← EReal.coe_sub]; exact EReal.coe_ne_top _
  obtain ⟨a, ha, ea⟩ := key _ (sub_top x hx)
  obtain ⟨b, hb, eb⟩ := key _ (sub_top y hy)
  have self : Ideal.exp ((M : EReal) - (M : EReal)) = ((1 : ℝ) : EReal) := by
    rw [← EReal.coe_sub, sub_self]
    change ((Real.exp 0 : ℝ) : EReal) = _
    rw [Real.exp_zero]
  have pos : ¬ (a + b ≤ 0) := by
    rcases max_choice x y with e | e <;> rw [hm] at e
    · rw [← e, self] at ea
      have : (1 : ℝ) = a := EReal.coe_injective ea
      linarith
    · rw [← e, self] at eb
      have : (1 : ℝ) = b := EReal.coe_injective eb
      linarith
  refine ⟨Real.log (a + b), ?_⟩
  rw [ea, eb, ← EReal.coe_add]
  change (if a + b ≤ 0 then (⊥ : EReal) else ((Real.log (a + b) : ℝ) : EReal)) = _
  rw [if_neg pos]

/-- The log-softmax of one of the two logits: taking off the maximum and then the normaliser is taking off their
    sum, when neither logit is `⊤`. -/
theorem log_softmax (x y p : EReal) (hx : x ≠ ⊤) (hy : y ≠ ⊤) (hp : p = x ∨ p = y) :
    p - (max x y + lse x y) = p - max x y - lse x y := by
  have hpM : p ≤ max x y := by rcases hp with rfl | rfl; exacts [le_max_left _ _, le_max_right _ _]
  have hM : max x y ≠ ⊤ := by
    rcases max_choice x y with e | e <;> rw [e] <;> assumption
  by_cases hb : max x y = ⊥
  · rw [hb] at hpM ⊢
    rw [le_bot_iff.1 hpM]
    simp
  · obtain ⟨g, hg⟩ := lse_real x y hx hy hb
    rw [hg]
    generalize max x y = M at hM hb
    lift M to ℝ using ⟨hM, hb⟩
    have hpt : p ≠ ⊤ := by rcases hp with rfl | rfl <;> assumption
    induction p with
    | bot => simp
    | top => exact absurd rfl hpt
    | coe r => norm_cast; ring

/-! ## The sum over the parameters -/

/-- A sum over all 1048576 parameters is the sum over the first half, tiled in 1024 rows of 512, and the same over
    the second half. -/
theorem sum_params (f : Fin 1048576 → EReal) :
    ∑ k, f k = (∑ r : Fin 1024, ∑ s : Fin 512, f ⟨r * 512 + s, by omega⟩)
      + ∑ r : Fin 1024, ∑ s : Fin 512, f ⟨524288 + (r * 512 + s), by omega⟩ := by
  rw [Fin.sum_univ_two_halves 524288 524288 rfl f, Fin.sum_univ_tiles 1024 512 rfl, Fin.sum_univ_tiles 1024 512 rfl]

end Cert.Work

end
-- ==== Proof.KerRead.lean ====
module

public import proofs.«01_k».proof.Proof.Launch
public import proofs.«01_k».proof.Proof.Plain

@[expose] public section

set_option maxRecDepth 16384

/-!
# The kernel's two numbers, read as sums

The cross entropy and the loss of `Launch`, written as sums over rows and positions in the shared
values of `Plain`.
-/

noncomputable section

namespace Cert.KernelIdeal.Work

open Idealize.ShloMosaic Idealize.ShloMosaic.TcCoe Idealize.SL.Sem
open Cert.KernelIdeal Cert.KernelIdeal.Gen Cert.Work

/-- The constant the kernel multiplies by is `1/√(2π)`. -/
theorem named_value : Named.named (F := Ideal) κ "inv_sqrt_two_pi" (φ := .f32) 0x3ECC422A#32
    = (((Real.sqrt (2 * Real.pi))⁻¹ : ℝ) : EReal) := rfl

/-- The cross entropy: minus the mean over the rows of the picked logit less its row's normaliser. -/
theorem nllOf_eq (L : FVec Ideal S2x16 .f32) (lab : IVec S16 32) :
    nllOf (F := Ideal) L lab = Ideal.div
      (0 - ∑ i : Fin 16, (Scalar.select (IntOp.cmpi .eq (lab (ix1 i)) 1#32) (L (ix2 1 i)) (L (ix2 0 i))
        - (max (L (ix2 0 i)) (L (ix2 1 i)) + lse (L (ix2 0 i)) (L (ix2 1 i)))))
      (Ideal.ofBits .f32 0x41800000#32) := by
  pointwise [nllOf, k0_pay2, lse]
  rw [Fin.sum_univ_one]

/-- The positions the kernel computes are `pos`. -/
theorem positions_at (i : Fin 16) (l : Fin 2048) : k0_pay5 (F := Ideal) (ix2 i l) = pos l := by
  pointwise [k0_pay5, pos]
  rw [add_comm]

/-- The attention weights of row `i`, as they lie in the flat array. -/
def row (a : FVec Ideal S32768 .f32) (i : Fin 16) (l : Fin 2048) : EReal := a (ix1 ⟨i * 2048 + l, by omega⟩)

/-- The mean position the kernel computes on a row. -/
theorem centre_at (a : FVec Ideal S32768 .f32) (i : Fin 16) : k0_pay6 (F := Ideal) a (ix2 i 0) = mean (row a i) := by
  pointwise [k0_pay6, k0_pay4, mean, row, positions_at]

/-- The distance of the weights from the normal shares, as the kernel sums it. -/
theorem distance_eq (lab len : IVec S16 32) (a : FVec Ideal S32768 .f32) (x : FVec Ideal S16x2048 .f32)
    (μ : FVec Ideal S16x1 .f32) (hx : ∀ (i : Fin 16) (l : Fin 2048), x (ix2 i l) = pos l) :
    k0_pay7 (F := Ideal) (k0_pay3 (F := Ideal) lab) (k0_pay4 (F := Ideal) a) x μ len
      = Ideal.ofBits .f32 0x3F000000#32 * Ideal.div
          (∑ i : Fin 16, ∑ l : Fin 2048,
            (row a i l - part (kerDensity (μ (ix2 i 0)) (wid (lab (ix1 i)) (len (ix1 i)))) l)
              * (row a i l - part (kerDensity (μ (ix2 i 0)) (wid (lab (ix1 i)) (len (ix1 i)))) l))
          (Ideal.ofBits .f32 0x47000000#32) := by
  pointwise [k0_pay7, k0_pay3, k0_pay4, part, kerDensity, dev, wid, row, hx, named_value]

/-- The sum of the absolute values over one half of the parameters. -/
def halfSum (p : FVec Ideal S524288 .f32) : EReal :=
  ∑ r : Fin 1024, ∑ s : Fin 512, FloatOps.absf (F := Ideal) (φ := .f32) (p (ix1 ⟨r * 512 + s, by omega⟩))

/-- The loss: cross entropy, a multiple of the two halves' sums, and the distance. -/
theorem lossOf_eq (L : FVec Ideal S2x16 .f32) (lab len : IVec S16 32) (a : FVec Ideal S32768 .f32)
    (p q : FVec Ideal S524288 .f32) :
    lossOf (F := Ideal) L lab a len p q
      = nllOf (F := Ideal) L lab + Ideal.ofBits .f32 0x3851B717#32 * (halfSum p + halfSum q)
        + k0_pay7 (F := Ideal) (k0_pay3 (F := Ideal) lab) (k0_pay4 (F := Ideal) a) (k0_pay5 (F := Ideal)) (k0_pay6 (F := Ideal) a) len := by
  unfold lossOf
  generalize nllOf (F := Ideal) L lab = n
  generalize k0_pay7 (F := Ideal) (k0_pay3 (F := Ideal) lab) (k0_pay4 (F := Ideal) a) (k0_pay5 (F := Ideal)) (k0_pay6 (F := Ideal) a) len = d
  pointwise [k0_pay1, k0_pay8, halfSum]

/-- The first copied half holds the first 524288 parameters. -/
theorem lowHalf_at (c : Dev nD) (f : FVec Ideal S1048576 .f32) (k : Fin 524288) :
    (lowHalf (F := Ideal) c f : FVec Ideal S524288 .f32) (ix1 k) = f (ix1 ⟨k, by omega⟩) := by
  refine congrArg f (funext fun a => Fin.ext ?_)
  match a with
  | ⟨0, _⟩ => exact (Nat.zero_add _).trans (Nat.one_mul k.val)

/-- The second copied half holds the last 524288 parameters. -/
theorem highHalf_at (c : Dev nD) (f : FVec Ideal S1048576 .f32) (k : Fin 524288) :
    (highHalf (F := Ideal) c f : FVec Ideal S524288 .f32) (ix1 k) = f (ix1 ⟨524288 + k, by omega⟩) := by
  refine congrArg f (funext fun a => Fin.ext ?_)
  match a with
  | ⟨0, _⟩ => exact congrArg (524288 + ·) (Nat.one_mul k.val)

end Cert.KernelIdeal.Work

end
-- ==== Proof.RefRead.lean ====
module

public import proofs.«01_k».proof.Proof.RefTerm
public import proofs.«01_k».proof.Proof.Plain

@[expose] public section

set_option maxRecDepth 16384

/-!
# The reference's stages, read entry by entry

Each stage of the distance and of the penalty at an index, in the shared values of `Plain`.
-/

noncomputable section

namespace Cert.ReferenceIdeal.Work

open Idealize.ShloMosaic Idealize.ShloMosaic.TcCoe Idealize.SL.Sem
open Cert.ReferenceIdeal Cert.ReferenceIdeal.Gen Cert.Work

/-! ## The distance of the weights from the normal shares -/

/-- Every row's positions are `pos`. -/
theorem positions_at (i : Fin 16) (l : Fin 2048) : positions (ix2 i l) = pos l := by
  pointwise [positions, pos]

/-- A row's centre is the mean position under its weights. -/
theorem centre_at (w : FVec Ideal S16x2048 .f32) (i : Fin 16) : centre w (ix1 i) = mean fun l => w (ix2 i l) := by
  pointwise [centre, mean, positions_at]

/-- A row's width is that of its label and length. -/
theorem width_at (lab len : IVec S16 32) (i : Fin 16) : width lab len (ix1 i) = wid (lab (ix1 i)) (len (ix1 i)) := by
  pointwise [width, wid]

/-- The density of a row at a position. -/
theorem density_at (μ σ : FVec Ideal S16 .f32) (i : Fin 16) (l : Fin 2048) :
    density μ σ (ix2 i l) = refDensity (μ (ix1 i)) (σ (ix1 i)) l := by
  pointwise [density, deviation, rootTwoPi, refDensity, dev, positions_at]

/-- The share of a row at a position. -/
theorem share_at (d : FVec Ideal S16x2048 .f32) (i : Fin 16) (l : Fin 2048) :
    share d (ix2 i l) = part (fun k => d (ix2 i k)) l := by
  pointwise [share, part]

/-- The distance as half a mean over all entries. -/
theorem distance_at (w r : FVec Ideal S16x2048 .f32) (j : S_.Idx) :
    distance w r j = Ideal.ofBits .f32 0x3F000000#32
      * Ideal.div (∑ i : Fin 16, ∑ l : Fin 2048, (w (ix2 i l) - r (ix2 i l)) * (w (ix2 i l) - r (ix2 i l)))
          (Ideal.ofBits .f32 0x47000000#32) := by
  pointwise [distance]
  rw [mean_of_means]

/-! ## The penalty -/

/-- The penalty as a multiple of the sum of all absolute values. -/
theorem penalty_at (p : FVec Ideal S1048576 .f32) (j : S_.Idx) :
    penalty p j = Ideal.ofBits .f32 0x3851B717#32 * ∑ k : Fin 1048576, FloatOps.absf (p (ix1 k)) := by
  pointwise [penalty]

end Cert.ReferenceIdeal.Work

end
-- ==== Proof.RefEntropy.lean ====
module

public import proofs.«01_k».proof.Proof.RefTerm
public import proofs.«01_k».proof.Proof.Plain

@[expose] public section

set_option maxRecDepth 16384

/-!
# The reference's cross entropy, read row by row

The log-softmax, the class index and the picked log-probability of a row. The last is read for labels
among the two classes and logits that are not plus infinity.
-/

noncomputable section

namespace Cert.ReferenceIdeal.Work

open Idealize.ShloMosaic Idealize.ShloMosaic.TcCoe Idealize.SL.Sem
open Cert.ReferenceIdeal Cert.ReferenceIdeal.Gen Cert.Work

/-- A logit less the greater of its row's two. -/
theorem shifted_at (L : FVec Ideal S16x2 .f32) (i : Fin 16) (k : Fin 2) :
    shifted L (ix2 i k) = L (ix2 i k) - max (L (ix2 i 0)) (L (ix2 i 1)) := by
  pointwise [shifted]
  rw [word_bot, show (Finset.univ : Finset (Fin 2)) = {0, 1} from rfl, Finset.fold_insert (by decide), Finset.fold_singleton]
  simp

/-- The log-softmax of a logit: less the greater of its row's two, less the row's normaliser. -/
theorem logSoftmax_at (L : FVec Ideal S16x2 .f32) (i : Fin 16) (k : Fin 2) :
    logSoftmax L (ix2 i k) = L (ix2 i k) - max (L (ix2 i 0)) (L (ix2 i 1)) - lse (L (ix2 i 0)) (L (ix2 i 1)) := by
  pointwise [logSoftmax, shifted_at, lse]
  rw [Fin.sum_univ_two]

/-- A row's class index is its label, when that is one of the two classes. -/
theorem classes_at (lab : IVec S16 32) (i : Fin 16) (j k : Fin 1) (h : lab (ix1 i) = 0#32 ∨ lab (ix1 i) = 1#32) :
    classes lab (ix3 i j k) = lab (ix1 i) := by
  pointwise [classes]
  rcases h with h | h <;> rw [h] <;> rfl

/-- A class index of 0 or 1 lies among the classes. -/
theorem known_at (c : IVec S16x1x1 32) (i : Fin 16) (h : c (ix3 i 0 0) = 0#32 ∨ c (ix3 i 0 0) = 1#32) :
    known c (ix2 i 0) = 1#1 := by
  pointwise [known]
  rw [show (Finset.univ : Finset (Fin 1)) = {0} from rfl, Finset.fold_singleton]
  rcases h with h | h <;> rw [h] <;> rfl

/-- The entry taken from a row: the one in the column `k` that its class index names, read signed and clamped to the
    two columns. -/
theorem taken_at (P : FVec Ideal S16x2 .f32) (c : IVec S16x1x1 32) (i : Fin 16) (k : Fin 2)
    (hk : min (c (ix3 i 0 0)).toInt.toNat 1 = k) : taken P c (ix2 i 0) = P (ix2 i k) := by
  have hcell : gather_S16x2_S16x1x1_S16x1_n_1_0_0_1_2_11.siIdx (ix2 i 0) ⟨0, by decide⟩ = (ix3 i 0 0 : S16x1x1.Idx) := by
    funext b
    match b with
    | ⟨0, _⟩ => rfl
    | ⟨1, _⟩ => rfl
    | ⟨2, _⟩ => rfl
  refine congrArg P (funext fun a => Fin.ext ?_)
  match a with
  | ⟨0, _⟩ => exact Nat.zero_add i.val
  | ⟨1, _⟩ => exact (congrArg (fun q => min (c q).toInt.toNat 1) hcell).trans hk

/-- The log-probability picked for a row whose label is one of the two classes. -/
theorem picked_at (L : FVec Ideal S16x2 .f32) (lab : IVec S16 32) (i : Fin 16)
    (h : lab (ix1 i) = 0#32 ∨ lab (ix1 i) = 1#32) (h0 : L (ix2 i 0) ≠ ⊤) (h1 : L (ix2 i 1) ≠ ⊤) :
    picked L lab (ix1 i)
      = Scalar.select (IntOp.cmpi .eq (lab (ix1 i)) 1#32) (L (ix2 i 1)) (L (ix2 i 0))
        - (max (L (ix2 i 0)) (L (ix2 i 1)) + lse (L (ix2 i 0)) (L (ix2 i 1))) := by
  have hc : classes lab (ix3 i 0 0) = lab (ix1 i) := classes_at lab i 0 0 h
  pointwise [picked]
  rw [known_at _ i (by rw [hc]; exact h)]
  rcases h with h | h
  · rw [taken_at _ _ i 0 (by rw [hc, h]; rfl), h]
    exact (logSoftmax_at L i 0).trans (log_softmax _ _ _ h0 h1 (.inl rfl)).symm
  · rw [taken_at _ _ i 1 (by rw [hc, h]; rfl), h]
    exact (logSoftmax_at L i 1).trans (log_softmax _ _ _ h0 h1 (.inr rfl)).symm

/-- The cross entropy as minus the mean of the picked log-probabilities. -/
theorem entropy_at (L : FVec Ideal S16x2 .f32) (lab : IVec S16 32) (j : S_.Idx) :
    entropy L lab j = -Ideal.div (∑ i : Fin 16, picked L lab (ix1 i)) (Ideal.ofBits .f32 0x41800000#32) := by
  pointwise [entropy]

end Cert.ReferenceIdeal.Work

end
-- ==== Proof.Equation.lean ====
module

public import proofs.«01_k».proof.Proof.KerRead
public import proofs.«01_k».proof.Proof.RefRead
public import proofs.«01_k».proof.Proof.RefEntropy

@[expose] public section

set_option maxRecDepth 16384

/-!
# The equation between the two programs

For labels among the two classes and logits that are not plus infinity, the kernel's cross entropy and loss are
the reference's, at the same argument arrays.
-/

noncomputable section

namespace Cert.Work

open Idealize.ShloMosaic Idealize.ShloMosaic.TcCoe
open Cert.KernelIdeal (S16x2 S2x16 S16 S32768 S524288 S1048576)

/-- The logits with the classes as rows, as the kernel is given them. -/
abbrev byClass (L : FVec Ideal S16x2 .f32) : FVec Ideal S2x16 .f32 :=
  transpose S2x16 [1, 0] L Cert.KernelIdeal.Facts₀.transposes_S16x2_S2x16_1_0

/-- Reading the logits by class is reading them by row. -/
theorem byClass_at (L : FVec Ideal S16x2 .f32) (k : Fin 2) (i : Fin 16) : byClass L (ix2 k i) = L (ix2 i k) := by
  pointwise [byClass]

/-- The cross entropies agree. -/
theorem entropy_eq (L : FVec Ideal S16x2 .f32) (lab : IVec S16 32)
    (hlab : ∀ i : Fin 16, lab (ix1 i) = 0#32 ∨ lab (ix1 i) = 1#32) (hL : ∀ (i : Fin 16) (k : Fin 2), L (ix2 i k) ≠ ⊤) :
    Cert.ReferenceIdeal.Work.entropy L lab = fun _ => Cert.KernelIdeal.Work.nllOf (F := Ideal) (byClass L) lab := by
  funext j
  rw [Cert.KernelIdeal.Work.nllOf_eq, neg_mean]
  refine (Cert.ReferenceIdeal.Work.entropy_at L lab j).trans (congrArg (fun s => -Ideal.div s _) ?_)
  refine Finset.sum_congr rfl fun i _ => ?_
  rw [byClass_at, byClass_at]
  exact Cert.ReferenceIdeal.Work.picked_at L lab i (hlab i) (hL i 0) (hL i 1)

/-- A row of the attention weights, by either program's layout. -/
theorem weights_at (a : FVec Ideal S32768 .f32) (i : Fin 16) (l : Fin 2048) :
    Cert.ReferenceIdeal.Work.weights a (ix2 i l) = Cert.KernelIdeal.Work.row a i l := by
  pointwise [Cert.KernelIdeal.Work.row]

/-- The shares of the normal densities agree, row by row. -/
theorem share_eq (a : FVec Ideal S32768 .f32) (lab len : IVec S16 32) (i : Fin 16) (l : Fin 2048) :
    Cert.ReferenceIdeal.Work.share
        (Cert.ReferenceIdeal.Work.density (Cert.ReferenceIdeal.Work.centre (Cert.ReferenceIdeal.Work.weights a))
          (Cert.ReferenceIdeal.Work.width lab len)) (ix2 i l)
      = part (kerDensity (mean (Cert.KernelIdeal.Work.row a i)) (wid (lab (ix1 i)) (len (ix1 i)))) l := by
  rw [Cert.ReferenceIdeal.Work.share_at, ← density_eq]
  refine congrArg (fun d => part d l) (funext fun k => ?_)
  rw [Cert.ReferenceIdeal.Work.density_at, Cert.ReferenceIdeal.Work.centre_at, Cert.ReferenceIdeal.Work.width_at]
  simp only [weights_at]

/-- The distances of the weights from the normal shares agree. -/
theorem distance_eq (a : FVec Ideal S32768 .f32) (lab len : IVec S16 32) (j : Cert.ReferenceIdeal.S_.Idx) :
    Cert.ReferenceIdeal.Work.distance (Cert.ReferenceIdeal.Work.weights a)
        (Cert.ReferenceIdeal.Work.share (Cert.ReferenceIdeal.Work.density
          (Cert.ReferenceIdeal.Work.centre (Cert.ReferenceIdeal.Work.weights a)) (Cert.ReferenceIdeal.Work.width lab len))) j
      = Cert.KernelIdeal.Gen.k0_pay7 (F := Ideal) (Cert.KernelIdeal.Gen.k0_pay3 (F := Ideal) lab)
          (Cert.KernelIdeal.Gen.k0_pay4 (F := Ideal) a) (Cert.KernelIdeal.Gen.k0_pay5 (F := Ideal))
          (Cert.KernelIdeal.Gen.k0_pay6 (F := Ideal) a) len := by
  rw [Cert.KernelIdeal.Work.distance_eq _ _ _ _ _ Cert.KernelIdeal.Work.positions_at,
    Cert.ReferenceIdeal.Work.distance_at]
  simp only [share_eq, weights_at, Cert.KernelIdeal.Work.centre_at]

/-- The penalties on the parameters agree: the sum over the whole array is the sum over its two halves. -/
theorem penalty_eq (c : Dev Cert.KernelIdeal.nD) (p : FVec Ideal S1048576 .f32) (j : Cert.ReferenceIdeal.S_.Idx) :
    Cert.ReferenceIdeal.Work.penalty p j
      = Ideal.ofBits .f32 0x3851B717#32 * (Cert.KernelIdeal.Work.halfSum (Cert.KernelIdeal.Work.lowHalf (F := Ideal) c p)
          + Cert.KernelIdeal.Work.halfSum (Cert.KernelIdeal.Work.highHalf (F := Ideal) c p)) := by
  rw [Cert.ReferenceIdeal.Work.penalty_at, sum_params]
  unfold Cert.KernelIdeal.Work.halfSum
  simp only [Cert.KernelIdeal.Work.lowHalf_at, Cert.KernelIdeal.Work.highHalf_at]

/-- The losses agree. -/
theorem total_eq (c : Dev Cert.KernelIdeal.nD) (L : FVec Ideal S16x2 .f32) (lab : IVec S16 32) (a : FVec Ideal S32768 .f32)
    (len : IVec S16 32) (p : FVec Ideal S1048576 .f32)
    (hlab : ∀ i : Fin 16, lab (ix1 i) = 0#32 ∨ lab (ix1 i) = 1#32) (hL : ∀ (i : Fin 16) (k : Fin 2), L (ix2 i k) ≠ ⊤) :
    Cert.ReferenceIdeal.Work.total L lab a len p
      = fun _ => Cert.KernelIdeal.Work.lossOf (F := Ideal) (byClass L) lab a len
          (Cert.KernelIdeal.Work.lowHalf (F := Ideal) c p) (Cert.KernelIdeal.Work.highHalf (F := Ideal) c p) := by
  funext j
  rw [Cert.KernelIdeal.Work.lossOf_eq, ← distance_eq a lab len j, ← penalty_eq c p j,
    ← congrFun (entropy_eq L lab hlab hL) j]
  rfl

end Cert.Work

end
-- ==== Proof.lean ====
module

public import proofs.«01_k».proof.Defs
public import proofs.«01_k».proof.Proof.Launch
public import proofs.«01_k».proof.Proof.KernelFrame
public import proofs.«01_k».proof.Proof.RefTerm
public import proofs.«01_k».proof.Proof.Precondition
public import proofs.«01_k».proof.Proof.Equation

@[expose] public section

set_option maxRecDepth 16384

/-!
# The claims

Each claim is put together from the run of the kernel (`Launch`, `KernelFrame`), the run of the reference (`RefTerm`),
the reading of the precondition (`Precondition`) and the equation between the two (`Equation`).
-/

noncomputable section

namespace Cert.Proof

open Idealize.ShloMosaic Idealize.SL.Sem

/-- The kernel over the extended reals ends with its arguments unchanged and its semaphores at zero. -/
theorem frame_ideal : Cert.quiescent_KernelIdeal := fun m ρ _ =>
  (θ_run Cert.KernelIdeal.defs _ _).mono (fun _ h => ⟨fun c => (h.1 c).2.2, h.2⟩)
    (Cert.KernelIdeal.Work.launch (F := Ideal) m ρ)

/-- The reference ends with its arguments unchanged; it declares no semaphore. -/
theorem frame_reference : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Work.reference m ρ)

/-- The idealised kernel is the kernel with the constant `1/√(2π)` named. -/
theorem preserves : Cert.preserves_Kernel_KernelIdeal :=
  IdealRules.named_const.statement Cert.KernelIdeal.κ "inv_sqrt_two_pi" .f32 0x3ECC422A#32 _ rfl

/-- From arguments that satisfy the precondition, the kernel and the reference end with the same loss and the same
    cross entropy. -/
theorem algebraic : Cert.algebraic_KernelIdeal_ReferenceIdeal_pre_in_range := by
  intro m ρ m' ρ' hpre hargs
  refine ⟨fun c _ => Cert.KernelIdeal.Work.loss (F := Ideal) m c, fun c _ => Cert.KernelIdeal.Work.nll (F := Ideal) m c,
    (θ_run Cert.KernelIdeal.defs _ _).mono (fun _ h c => h.1 c) (Cert.KernelIdeal.Work.launch (F := Ideal) m ρ),
    (θ_run Cert.ReferenceIdeal.defs _ _).mono (fun _ h c => ?_) (Cert.ReferenceIdeal.Work.reference m' ρ')⟩
  obtain ⟨hloss, hnll, hrest⟩ := h c
  obtain ⟨h0, h1, h2, h3, h4⟩ := hargs c
  obtain ⟨hlab, hlogit⟩ := Cert.Pre_in_range.Work.in_range _ _ _ _ _ (hpre c)
  refine ⟨hloss.trans ?_, hnll.trans ?_, hrest⟩
  · rw [h0, h1, h2, h3, h4]
    exact Cert.Work.total_eq c _ _ _ _ _ hlab hlogit
  · rw [h0, h1]
    exact Cert.Work.entropy_eq _ _ hlab hlogit

/-- Everything the certificate claims. -/
theorem claim : Cert.Claim :=
  ⟨Cert.Kernel.Gen.facts, Cert.KernelIdeal.Gen.facts, Cert.ReferenceIdeal.Gen.facts, Cert.Pre_in_range.Gen.facts,
    Cert.Kernel.Work.frame,
    frame_ideal, fun m ρ _ => frame_ideal m ρ trivial,
    frame_reference, fun m ρ _ => frame_reference m ρ trivial,
    preserves, algebraic⟩

end Cert.Proof

end
